-- ==== Defs.lean ====
def Pre_Kernel (m : (ℓ : Loc Cert.Kernel.nD Cert.Kernel.τ Cert.Kernel.sig) → Buf (Elt Bits) ℓ) : Prop :=
  True

def Pre_Kernel_nearest_code_is_unique [hPre_nearest_code_is_unique : Cert.Pre_nearest_code_is_unique.Facts] (m : (ℓ : Loc Cert.Kernel.nD Cert.Kernel.τ Cert.Kernel.sig) → Buf (Elt Bits) ℓ) : Prop :=
  ∀ c : Dev Cert.Kernel.nD,
    (Cert.Pre_nearest_code_is_unique.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_nearest_code_is_unique : Cert.Pre_nearest_code_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_code_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_code_is_unique [hPre_nearest_code_is_unique : Cert.Pre_nearest_code_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_code_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_nearest_code_is_unique [hKernel : Cert.Kernel.Facts] [hPre_nearest_code_is_unique : Cert.Pre_nearest_code_is_unique.Facts] : Prop :=
  ∀ (m : (ℓ : Loc Cert.Kernel.nD Cert.Kernel.τ Cert.Kernel.sig) → Buf (Elt Bits) ℓ) (g : Dev Cert.Kernel.nD → PrngReg), Pre_Kernel_nearest_code_is_unique m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_nearest_code_is_unique : Cert.Pre_nearest_code_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nearest_code_is_unique [hReferenceIdeal : Cert.ReferenceIdeal.Facts] [hPre_nearest_code_is_unique : Cert.Pre_nearest_code_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_code_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_nearest_code_is_unique : Cert.Pre_nearest_code_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nearest_code_is_unique : Cert.Pre_nearest_code_is_unique.Facts),
    quiescent_Kernel (hKernel := hKernel)
    ∧ quiescent_Kernel_pre_nearest_code_is_unique (hKernel := hKernel) (hPre_nearest_code_is_unique := hPre_nearest_code_is_unique)
    ∧ quiescent_KernelIdeal (hKernelIdeal := hKernelIdeal) (hPre_nearest_code_is_unique := hPre_nearest_code_is_unique)
    ∧ quiescent_ReferenceIdeal (hReferenceIdeal := hReferenceIdeal)
    ∧ quiescent_ReferenceIdeal_pre_nearest_code_is_unique (hReferenceIdeal := hReferenceIdeal) (hPre_nearest_code_is_unique := hPre_nearest_code_is_unique)
    ∧ preserves_Kernel_KernelIdeal
    ∧ algebraic_KernelIdeal_ReferenceIdeal (hKernelIdeal := hKernelIdeal) (hReferenceIdeal := hReferenceIdeal) (hPre_nearest_code_is_unique := hPre_nearest_code_is_unique)
-- ==== Pre_nearest_code_is_unique.lean ====
abbrev S4x576x768 : Shape := ⟨3, ![4, 576, 768]⟩
abbrev S32x768 : Shape := ⟨2, ![32, 768]⟩
abbrev S8192x32 : Shape := ⟨2, ![8192, 32]⟩
abbrev S768x32 : Shape := ⟨2, ![768, 32]⟩
abbrev S4x576x32 : Shape := ⟨3, ![4, 576, 32]⟩
abbrev S_ : Shape := ⟨0, ![]⟩
abbrev S4x576 : Shape := ⟨2, ![4, 576]⟩
abbrev S4x576x1 : Shape := ⟨3, ![4, 576, 1]⟩
abbrev S8192 : Shape := ⟨1, ![8192]⟩
abbrev S32x8192 : Shape := ⟨2, ![32, 8192]⟩
abbrev S4x576x8192 : Shape := ⟨3, ![4, 576, 8192]⟩
abbrev S1x1x8192 : Shape := ⟨3, ![1, 1, 8192]⟩

class Facts : Prop where
  transposes_S32x768_S768x32_1_0 : S32x768.Transposes [1, 0] S768x32
  reducesTo_S4x576x32_S4x576_d2 : S4x576x32.ReducesTo [2] S4x576
  h_S_ : 0 < S_.numel
  bcast_S4x576_S4x576x1_0_1 : S4x576.BroadcastsInDim S4x576x1 (![0, 1] : Fin 2 → Fin S4x576x1.rank)
  bcast_S_S4x576x1 : S_.BroadcastsInDim S4x576x1 (![] : Fin 0 → Fin S4x576x1.rank)
  bcast_S4x576x1_S4x576x32_0_1_2 : S4x576x1.BroadcastsInDim S4x576x32 (![0, 1, 2] : Fin 3 → Fin S4x576x32.rank)
  reducesTo_S8192x32_S8192_d1 : S8192x32.ReducesTo [1] S8192
  transposes_S8192x32_S32x8192_1_0 : S8192x32.Transposes [1, 0] S32x8192
  bcast_S_S4x576x8192 : S_.BroadcastsInDim S4x576x8192 (![] : Fin 0 → Fin S4x576x8192.rank)
  bcast_S4x576x1_S4x576x8192_0_1_2 : S4x576x1.BroadcastsInDim S4x576x8192 (![0, 1, 2] : Fin 3 → Fin S4x576x8192.rank)
  bcast_S8192_S1x1x8192_2 : S8192.BroadcastsInDim S1x1x8192 (![2] : Fin 1 → Fin S1x1x8192.rank)
  bcast_S1x1x8192_S4x576x8192_0_1_2 : S1x1x8192.BroadcastsInDim S4x576x8192 (![0, 1, 2] : Fin 3 → Fin S4x576x8192.rank)
  reducesTo_S4x576x8192_S4x576_d2 : S4x576x8192.ReducesTo [2] S4x576
  natLt_1_32 : 1 < 32
  bcast_S_S4x576 : S_.BroadcastsInDim S4x576 (![] : Fin 0 → Fin S4x576.rank)
  bcast_S_S8192x32 : S_.BroadcastsInDim S8192x32 (![] : Fin 0 → Fin S8192x32.rank)
  reducesTo_S8192x32_S_d0_1 : S8192x32.ReducesTo [0, 1] S_
  dot_S4x576x768_S768x32_S4x576x32_2_0_01_1_n_n_wf : DotDims.WF S4x576x768 S768x32 S4x576x32 [2] [0] [0, 1] [1] [] []
  dot_S4x576x32_S32x8192_S4x576x8192_2_0_01_1_n_n_wf : DotDims.WF S4x576x32 S32x8192 S4x576x8192 [2] [0] [0, 1] [1] [] []

variable [Facts]

def dot_S4x576x768_S768x32_S4x576x32_2_0_01_1_n_n : DotDims S4x576x768 S768x32 S4x576x32 where
  lhsContracting := [2]
  rhsContracting := [0]
  lhsNonContracting := [0, 1]
  rhsNonContracting := [1]
  lhsBatch := []
  rhsBatch := []
  wf := dot_S4x576x768_S768x32_S4x576x32_2_0_01_1_n_n_wf
def dot_S4x576x32_S32x8192_S4x576x8192_2_0_01_1_n_n : DotDims S4x576x32 S32x8192 S4x576x8192 where
  lhsContracting := [2]
  rhsContracting := [0]
  lhsNonContracting := [0, 1]
  rhsNonContracting := [1]
  lhsBatch := []
  rhsBatch := []
  wf := dot_S4x576x32_S32x8192_S4x576x8192_2_0_01_1_n_n_wf
def fn_where {F : FTy → Type} [FloatOps F] (arg0 : IVec S_ 1) (arg1 : FVec F S4x576x1 .f32) (arg2 : FVec F S_ .f32) : FVec F S4x576x1 .f32 :=
  let v0 : FVec F S_ .f32 := id arg2
  let v1 : FVec F S4x576x1 .f32 := broadcastInDim S4x576x1 ![] bcast_S_S4x576x1 v0
  let v2 : FVec F S4x576x1 .f32 := (fun p a b => select (broadcastInDim S4x576x1 ![] bcast_S_S4x576x1 p) a b) arg0 arg1 v1
  v2

def fn_var {F : FTy → Type} [FloatOps F] (arg0 : FVec F S4x576x32 .f32) (arg1 : IVec S_ 32) : FVec F S4x576x1 .f32 :=
  let cst : FVec F S_ .f32 := constant S_ .f32 0x00000000#32
  let v0 : FVec F S4x576 .f32 := (fun x v => Host.reduceAdd x v reducesTo_S4x576x32_S4x576_d2 h_S_) arg0 cst
  let v1 : FVec F S4x576x1 .f32 := broadcastInDim S4x576x1 ![0, 1] bcast_S4x576_S4x576x1_0_1 v0
  let cst_0 : FVec F S_ .f32 := constant S_ .f32 0x42000000#32
  let v2 : FVec F S4x576x1 .f32 := broadcastInDim S4x576x1 ![] bcast_S_S4x576x1 cst_0
  let v3 : FVec F S4x576x1 .f32 := Host.divf v1 v2
  let v4 : FVec F S4x576x32 .f32 := broadcastInDim S4x576x32 ![0, 1, 2] bcast_S4x576x1_S4x576x32_0_1_2 v3
  let v5 : FVec F S4x576x32 .f32 := subf arg0 v4
  let v6 : FVec F S4x576x32 .f32 := mulf v5 v5
  let v7 : FVec F S_ .f32 := sitofp .f32 arg1
  let cst_1 : FVec F S_ .f32 := constant S_ .f32 0x42000000#32
  let v8 : FVec F S_ .f32 := subf cst_1 v7
  let cst_2 : FVec F S_ .f32 := constant S_ .f32 0x00000000#32
  let v9 : FVec F S4x576 .f32 := (fun x v => Host.reduceAdd x v reducesTo_S4x576x32_S4x576_d2 h_S_) v6 cst_2
  let v10 : FVec F S4x576x1 .f32 := broadcastInDim S4x576x1 ![0, 1] bcast_S4x576_S4x576x1_0_1 v9
  let v11 : FVec F S4x576x1 .f32 := broadcastInDim S4x576x1 ![] bcast_S_S4x576x1 v8
  let v12 : FVec F S4x576x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4x576x1 .f32 := fn_where (F := F) v13 v12 cst_4
  v14

def fn_part2 {F : FTy → Type} [FloatOps F] (main_arg2 : FVec F S8192x32 .f32) (main_v36 : IVec S4x576 32) (main_c_8 : IVec S_ 32) : IVec S4x576 1 :=
  let main_v37 : IVec S4x576 32 := broadcastInDim S4x576 ![] bcast_S_S4x576 main_c_8
  let main_v38 : IVec S4x576 1 := cmpi .eq main_v36 main_v37
  let main_v39 : FVec F S8192x32 .f32 := Host.absf main_arg2
  let main_cst_9 : FVec F S_ .f32 := constant S_ .f32 0x7F800000#32
  let main_v40 : FVec F S8192x32 .f32 := broadcastInDim S8192x32 ![] bcast_S_S8192x32 main_cst_9
  let main_v41 : IVec S8192x32 1 := cmpf .olt main_v39 main_v40
  let main_c_10 : IVec S_ 1 := constantI S_ 1 1#1
  let main_v42 : IVec S_ 1 := (fun x v => Host.reduce IntOp.andi x v reducesTo_S8192x32_S_d0_1 h_S_) main_v41 main_c_10
  let main_v43 : IVec S4x576 1 := broadcastInDim S4x576 ![] bcast_S_S4x576 main_v42
  let main_v44 : IVec S4x576 1 := andi main_v38 main_v43
  main_v44

def fn_part1 {F : FTy → Type} [FloatOps F] (main_arg2 : FVec F S8192x32 .f32) (main_v13 : FVec F S4x576x32 .f32) (main_v16 : FVec F S4x576x1 .f32) (main_v17 : FVec F S8192x32 .f32) (main_cst_3 : FVec F S_ .f32) : IVec S4x576 1 :=
  let main_v18 : FVec F S8192 .f32 := (fun x v => Host.reduceAdd x v reducesTo_S8192x32_S8192_d1 h_S_) main_v17 main_cst_3
  let main_v19 : FVec F S32x8192 .f32 := (transpose S32x8192 [1, 0] · transposes_S8192x32_S32x8192_1_0) main_arg2
  let main_v20 : FVec F S4x576x8192 .f32 := (fun l r => Host.dotGeneral dot_S4x576x32_S32x8192_S4x576x8192_2_0_01_1_n_n none l r) main_v13 main_v19
  let main_cst_4 : FVec F S_ .f32 := constant S_ .f32 0x40000000#32
  let main_v21 : FVec F S4x576x8192 .f32 := broadcastInDim S4x576x8192 ![] bcast_S_S4x576x8192 main_cst_4
  let main_v22 : FVec F S4x576x8192 .f32 := mulf main_v21 main_v20
  let main_v23 : FVec F S4x576x8192 .f32 := broadcastInDim S4x576x8192 ![0, 1, 2] bcast_S4x576x1_S4x576x8192_0_1_2 main_v16
  let main_v24 : FVec F S4x576x8192 .f32 := subf main_v23 main_v22
  let main_v25 : FVec F S1x1x8192 .f32 := broadcastInDim S1x1x8192 ![2] bcast_S8192_S1x1x8192_2 main_v18
  let main_v26 : FVec F S4x576x8192 .f32 := broadcastInDim S4x576x8192 ![0, 1, 2] bcast_S1x1x8192_S4x576x8192_0_1_2 main_v25
  let main_v27 : FVec F S4x576x8192 .f32 := addf main_v24 main_v26
  let main_cst_5 : FVec F S_ .f32 := constant S_ .f32 0x00000000#32
  let main_v28 : FVec F S4x576x8192 .f32 := broadcastInDim S4x576x8192 ![] bcast_S_S4x576x8192 main_cst_5
  let main_v29 : FVec F S4x576x8192 .f32 := maximumf main_v27 main_v28
  let main_v30 : FVec F S4x576x8192 .f32 := Host.sqrt main_v29
  let main_cst_6 : FVec F S_ .f32 := constant S_ .f32 0x7F800000#32
  let main_v31 : FVec F S4x576 .f32 := (fun x v => Host.reduce FloatOps.minimumf x v reducesTo_S4x576x8192_S4x576_d2 h_S_) main_v30 main_cst_6
  let main_v32 : FVec F S4x576x1 .f32 := broadcastInDim S4x576x1 ![0, 1] bcast_S4x576_S4x576x1_0_1 main_v31
  let main_v33 : FVec F S4x576x8192 .f32 := broadcastInDim S4x576x8192 ![0, 1, 2] bcast_S4x576x1_S4x576x8192_0_1_2 main_v32
  let main_v34 : IVec S4x576x8192 1 := cmpf .oeq main_v30 main_v33
  let main_v35 : IVec S4x576x8192 32 := (extui 32 · natLt_1_32) main_v34
  let main_c_7 : IVec S_ 32 := constantI S_ 32 0#32
  let main_v36 : IVec S4x576 32 := (fun x v => Host.reduce IntOp.addi x v reducesTo_S4x576x8192_S4x576_d2 h_S_) main_v35 main_c_7
  let main_c_8 : IVec S_ 32 := constantI S_ 32 1#32
  fn_part2 (F := F) main_arg2 main_v36 main_c_8

def fn {F : FTy → Type} [FloatOps F] (main_arg0 : FVec F S4x576x768 .f32) (main_arg1 : FVec F S32x768 .f32) (main_arg2 : FVec F S8192x32 .f32) : IVec S4x576 1 :=
  let main_v0 : FVec F S768x32 .f32 := (transpose S768x32 [1, 0] · transposes_S32x768_S768x32_1_0) main_arg1
  let main_v1 : FVec F S4x576x32 .f32 := (fun l r => Host.dotGeneral dot_S4x576x768_S768x32_S4x576x32_2_0_01_1_n_n none l r) main_arg0 main_v0
  let main_cst : FVec F S_ .f32 := constant S_ .f32 0x00000000#32
  let main_v2 : FVec F S4x576 .f32 := (fun x v => Host.reduceAdd x v reducesTo_S4x576x32_S4x576_d2 h_S_) main_v1 main_cst
  let main_v3 : FVec F S4x576x1 .f32 := broadcastInDim S4x576x1 ![0, 1] bcast_S4x576_S4x576x1_0_1 main_v2
  let main_cst_0 : FVec F S_ .f32 := constant S_ .f32 0x42000000#32
  let main_v4 : FVec F S4x576x1 .f32 := broadcastInDim S4x576x1 ![] bcast_S_S4x576x1 main_cst_0
  let main_v5 : FVec F S4x576x1 .f32 := Host.divf main_v3 main_v4
  let main_c : IVec S_ 32 := constantI S_ 32 0#32
  let main_v6 : FVec F S4x576x1 .f32 := fn_var (F := F) main_v1 main_c
  let main_v7 : FVec F S4x576x32 .f32 := broadcastInDim S4x576x32 ![0, 1, 2] bcast_S4x576x1_S4x576x32_0_1_2 main_v5
  let main_v8 : FVec F S4x576x32 .f32 := subf main_v1 main_v7
  let main_cst_1 : FVec F S_ .f32 := constant S_ .f32 0x3727C5AC#32
  let main_v9 : FVec F S4x576x1 .f32 := broadcastInDim S4x576x1 ![] bcast_S_S4x576x1 main_cst_1
  let main_v10 : FVec F S4x576x1 .f32 := addf main_v6 main_v9
  let main_v11 : FVec F S4x576x1 .f32 := Host.sqrt main_v10
  let main_v12 : FVec F S4x576x32 .f32 := broadcastInDim S4x576x32 ![0, 1, 2] bcast_S4x576x1_S4x576x32_0_1_2 main_v11
  let main_v13 : FVec F S4x576x32 .f32 := Host.divf main_v8 main_v12
  let main_v14 : FVec F S4x576x32 .f32 := mulf main_v13 main_v13
  let main_cst_2 : FVec F S_ .f32 := constant S_ .f32 0x00000000#32
  let main_v15 : FVec F S4x576 .f32 := (fun x v => Host.reduceAdd x v reducesTo_S4x576x32_S4x576_d2 h_S_) main_v14 main_cst_2
  let main_v16 : FVec F S4x576x1 .f32 := broadcastInDim S4x576x1 ![0, 1] bcast_S4x576_S4x576x1_0_1 main_v15
  let main_v17 : FVec F S8192x32 .f32 := mulf main_arg2 main_arg2
  let main_cst_3 : FVec F S_ .f32 := constant S_ .f32 0x00000000#32
  fn_part1 (F := F) main_arg2 main_v13 main_v16 main_v17 main_cst_3
-- ==== Kernel.lean ====
abbrev S4x576x768 : Shape := ⟨3, ![4, 576, 768]⟩
abbrev S32x768 : Shape := ⟨2, ![32, 768]⟩
abbrev S8192x32 : Shape := ⟨2, ![8192, 32]⟩
abbrev S2304x768 : Shape := ⟨2, ![2304, 768]⟩
abbrev S2304 : Shape := ⟨1, ![2304]⟩
abbrev S128x768 : Shape := ⟨2, ![128, 768]⟩
abbrev S128 : Shape := ⟨1, ![128]⟩
abbrev S128x32 : Shape := ⟨2, ![128, 32]⟩
abbrev S128x1 : Shape := ⟨2, ![128, 1]⟩
abbrev S8192 : Shape := ⟨1, ![8192]⟩
abbrev S8192x1 : Shape := ⟨2, ![8192, 1]⟩
abbrev S128x33 : Shape := ⟨2, ![128, 33]⟩
abbrev S8192x33 : Shape := ⟨2, ![8192, 33]⟩
abbrev S128x8192 : Shape := ⟨2, ![128, 8192]⟩
abbrev S4x576 : Shape := ⟨2, ![4, 576]⟩

abbrev nBuf : Space → Nat
  | .hbm => 6
  | .vmem => 6
  | .smem => 0
  | _ => 0

abbrev bufTy : (tb : Table) → Fin (tcTables nBuf tb) → BufTy
  | .hbm, ⟨0, _⟩ => ⟨S4x576x768, .f32⟩
  | .hbm, ⟨1, _⟩ => ⟨S32x768, .f32⟩
  | .hbm, ⟨2, _⟩ => ⟨S8192x32, .f32⟩
  | .hbm, ⟨3, _⟩ => ⟨S2304x768, .f32⟩
  | .hbm, ⟨4, _⟩ => ⟨S2304, .i32⟩
  | .hbm, ⟨5, _⟩ => ⟨S4x576, .i32⟩
  | .local _ .vmem, ⟨0, _⟩ => ⟨S128x768, .f32⟩
  | .local _ .vmem, ⟨1, _⟩ => ⟨S128x768, .f32⟩
  | .local _ .vmem, ⟨2, _⟩ => ⟨S32x768, .f32⟩
  | .local _ .vmem, ⟨3, _⟩ => ⟨S8192x32, .f32⟩
  | .local _ .vmem, ⟨4, _⟩ => ⟨S128, .i32⟩
  | .local _ .vmem, ⟨5, _⟩ => ⟨S128, .i32⟩
  | _, _ => ⟨S4x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x576x768 : Shape := ⟨3, ![4, 576, 768]⟩
abbrev S32x768 : Shape := ⟨2, ![32, 768]⟩
abbrev S8192x32 : Shape := ⟨2, ![8192, 32]⟩
abbrev S768x32 : Shape := ⟨2, ![768, 32]⟩
abbrev S4x576x32 : Shape := ⟨3, ![4, 576, 32]⟩
abbrev S_ : Shape := ⟨0, ![]⟩
abbrev S4x576 : Shape := ⟨2, ![4, 576]⟩
abbrev S4x576x1 : Shape := ⟨3, ![4, 576, 1]⟩
abbrev S8192 : Shape := ⟨1, ![8192]⟩
abbrev S32x8192 : Shape := ⟨2, ![32, 8192]⟩
abbrev S4x576x8192 : Shape := ⟨3, ![4, 576, 8192]⟩
abbrev S1x1x8192 : Shape := ⟨3, ![1, 1, 8192]⟩

abbrev nBuf : Space → Nat
  | .hbm => 69
  | .vmem => 0
  | .smem => 0
  | _ => 0

abbrev bufTy : (tb : Table) → Fin (tcTables nBuf tb) → BufTy
  | .hbm, ⟨0, _⟩ => ⟨S4x576x768, .f32⟩
  | .hbm, ⟨1, _⟩ => ⟨S32x768, .f32⟩
  | .hbm, ⟨2, _⟩ => ⟨S8192x32, .f32⟩
  | .hbm, ⟨3, _⟩ => ⟨S768x32, .f32⟩
  | .hbm, ⟨4, _⟩ => ⟨S4x576x32, .f32⟩
  | .hbm, ⟨5, _⟩ => ⟨S_, .f32⟩
  | .hbm, ⟨6, _⟩ => ⟨S4x576, .f32⟩
  | .hbm, ⟨7, _⟩ => ⟨S4x576x1, .f32⟩
  | .hbm, ⟨8, _⟩ => ⟨S_, .f32⟩
  | .hbm, ⟨9, _⟩ => ⟨S4x576x1, .f32⟩
  | .hbm, ⟨10, _⟩ => ⟨S4x576x1, .f32⟩
  | .hbm, ⟨11, _⟩ => ⟨S_, .i32⟩
  | .hbm, ⟨12, _⟩ => ⟨S_, .f32⟩
  | .hbm, ⟨13, _⟩ => ⟨S4x576, .f32⟩
  | .hbm, ⟨14, _⟩ => ⟨S4x576x1, .f32⟩
  | .hbm, ⟨15, _⟩ => ⟨S_, .f32⟩
  | .hbm, ⟨16, _⟩ => ⟨S4x576x1, .f32⟩
  | .hbm, ⟨17, _⟩ => ⟨S4x576x1, .f32⟩
  | .hbm, ⟨18, _⟩ => ⟨S4x576x32, .f32⟩
  | .hbm, ⟨19, _⟩ => ⟨S4x576x32, .f32⟩
  | .hbm, ⟨20, _⟩ => ⟨S4x576x32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x576, .f32⟩
  | .hbm, ⟨26, _⟩ => ⟨S4x576x1, .f32⟩
  | .hbm, ⟨27, _⟩ => ⟨S4x576x1, .f32⟩
  | .hbm, ⟨28, _⟩ => ⟨S4x576x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S4x576x1, .f32⟩
  | .hbm, ⟨34, _⟩ => ⟨S4x576x1, .f32⟩
  | .hbm, ⟨35, _⟩ => ⟨S4x576x32, .f32⟩
  | .hbm, ⟨36, _⟩ => ⟨S4x576x32, .f32⟩
  | .hbm, ⟨37, _⟩ => ⟨S_, .f32⟩
  | .hbm, ⟨38, _⟩ => ⟨S4x576x1, .f32⟩
  | .hbm, ⟨39, _⟩ => ⟨S4x576x1, .f32⟩
  | .hbm, ⟨40, _⟩ => ⟨S4x576x1, .f32⟩
  | .hbm, ⟨41, _⟩ => ⟨S4x576x32, .f32⟩
  | .hbm, ⟨42, _⟩ => ⟨S4x576x32, .f32⟩
  | .hbm, ⟨43, _⟩ => ⟨S4x576x32, .f32⟩
  | .hbm, ⟨44, _⟩ => ⟨S_, .f32⟩
  | .hbm, ⟨45, _⟩ => ⟨S4x576, .f32⟩
  | .hbm, ⟨46, _⟩ => ⟨S4x576x1, .f32⟩
  | .hbm, ⟨47, _⟩ => ⟨S8192x32, .f32⟩
  | .hbm, ⟨48, _⟩ => ⟨S_, .f32⟩
  | .hbm, ⟨49, _⟩ => ⟨S8192, .f32⟩
  | .hbm, ⟨50, _⟩ => ⟨S32x8192, .f32⟩
  | .hbm, ⟨51, _⟩ => ⟨S4x576x8192, .f32⟩
  | .hbm, ⟨52, _⟩ => ⟨S_, .f32⟩
  | .hbm, ⟨53, _⟩ => ⟨S4x576x8192, .f32⟩
  | .hbm, ⟨54, _⟩ => ⟨S4x576x8192, .f32⟩
  | .hbm, ⟨55, _⟩ => ⟨S4x576x8192, .f32⟩
  | .hbm, ⟨56, _⟩ => ⟨S4x576x8192, .f32⟩
  | .hbm, ⟨57, _⟩ => ⟨S1x1x8192, .f32⟩
  | .hbm, ⟨58, _⟩ => ⟨S4x576x8192, .f32⟩
  | .hbm, ⟨59, _⟩ => ⟨S4x576x8192, .f32⟩
  | .hbm, ⟨60, _⟩ => ⟨S_, .f32⟩
  | .hbm, ⟨61, _⟩ => ⟨S4x576x8192, .f32⟩
  | .hbm, ⟨62, _⟩ => ⟨S4x576x8192, .f32⟩
  | .hbm, ⟨63, _⟩ => ⟨S4x576x8192, .f32⟩
  | .hbm, ⟨64, _⟩ => ⟨S4x576x8192, .i32⟩
  | .hbm, ⟨65, _⟩ => ⟨S_, .f32⟩
  | .hbm, ⟨66, _⟩ => ⟨S_, .i32⟩
  | .hbm, ⟨67, _⟩ => ⟨S4x576, .f32⟩
  | .hbm, ⟨68, _⟩ => ⟨S4x576, .i32⟩
  | _, _ => ⟨S4x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v31 : Ref sig .tc := ⟨.hbm, 68, rfl⟩

abbrev nD : Nat := 1
abbrev τ : Topo := Topo.v7x

variable {F : FTy → Type} [FloatOps F]
-- ==== Proof.Math.lean ====
/-
  The mathematics of the nearest-code search, over the extended reals and free of any program.

  A token's projection is a row of 32 numbers. `layerNorm` subtracts the row's mean and divides by the square root of its
  variance plus a small positive constant. It is real whatever the row is (`layerNorm_real`): an infinite entry makes the mean
  infinite, then every centred entry is infinite, the variance is `⊤`, and every quotient is zero.

  The kernel ranks the codes by `score`, a part of the expanded square: the cross term with its factor `-2` and the squared norm of the
  code. The reference ranks them by `dist`, the distance itself. For a finite codebook the two rank alike
  (`dist_le_iff`, `dist_lt_iff`): the squared distance is the score plus the squared norm of the token, it is not negative, and
  the square root is increasing. So both have the same first least index (`IsFirstLeast`, `firstLeast_dist`).
-/
module

public import Idealize.ShloMosaic.PureOps.Ideal.Laws

@[expose] public section

noncomputable section

namespace Cert.Proof.Rpq

open Idealize.ShloMosaic
open scoped BigOperators

/-! ### The constants -/

/-- The number of entries of a projected row, as both programs write it. -/
abbrev width : EReal := Ideal.ofBits .f32 0x42000000#32
/-- The constant added to the variance. -/
abbrev eps : EReal := Ideal.ofBits .f32 0x3727C5AC#32

theorem width_eq : width = ((32 : ℝ) : EReal) := by
  simp [width, Ideal.ofBits, Ideal.ieee, -EReal.coe_mul]; norm_num
theorem eps_pos : ∃ e : ℝ, 0 < e ∧ eps = (e : EReal) := by
  refine ⟨_, ?_, by simp [eps, Ideal.ofBits, Ideal.ieee, -EReal.coe_mul]; rfl⟩
  positivity
theorem two_eq : Ideal.ofBits .f32 0x40000000#32 = ((2 : ℝ) : EReal) := by
  simp [Ideal.ofBits, Ideal.ieee, -EReal.coe_mul]; norm_num
theorem neg_two_eq : Ideal.ofBits .f32 0xC0000000#32 = ((-2 : ℝ) : EReal) := by
  simp [Ideal.ofBits, Ideal.ieee, -EReal.coe_mul]; norm_num
theorem inf_eq : Ideal.ofBits .f32 0x7F800000#32 = (⊤ : EReal) := by
  simp [Ideal.ofBits, Ideal.ieee]

/-! ### Finite sums of extended reals -/

section Sums
variable {ι : Type*}

/-- A sum of real numbers is real. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum with a `⊥` in it is `⊥`. -/
theorem sum_bot {s : Finset ι} {f : ι → EReal} {a : ι} (ha : a ∈ s) (h : f a = ⊥) : ∑ i ∈ s, f i = ⊥ := by
  classical
  rw [← Finset.add_sum_erase s f ha, h, EReal.bot_add]

/-- A sum with no `⊥` in it is not `⊥`. -/
theorem sum_ne_bot (s : Finset ι) {f : ι → EReal} (h : ∀ i ∈ s, f i ≠ ⊥) : ∑ i ∈ s, f i ≠ ⊥ := by
  classical
  induction s using Finset.induction_on with
  | empty => simp
  | insert a s ha ih =>
    rw [Finset.sum_insert ha]
    intro e
    rcases EReal.add_eq_bot_iff.1 e with e | e
    · exact h a (Finset.mem_insert_self a s) e
    · exact ih (fun i hi => h i (Finset.mem_insert_of_mem hi)) e

/-- A sum with a `⊤` in it and no `⊥` is `⊤`. -/
theorem sum_top {s : Finset ι} {f : ι → EReal} {a : ι} (ha : a ∈ s) (h : f a = ⊤) (hb : ∀ i ∈ s, f i ≠ ⊥) :
    ∑ i ∈ s, f i = ⊤ := by
  classical
  rw [← Finset.add_sum_erase s f ha, h,
    EReal.top_add_of_ne_bot (sum_ne_bot _ fun i hi => hb i (Finset.mem_of_mem_erase hi))]

end Sums

/-! ### The layer normalisation -/

/-- A token's projection: the products of its features with the rows of the projection matrix. -/
def proj (X : Fin 768 → EReal) (W : Fin 32 → Fin 768 → EReal) (c : Fin 32) : EReal := ∑ k, X k * W c k

/-- The mean of a row. -/
def mean (p : Fin 32 → EReal) : EReal := Ideal.div (∑ c, p c) width
/-- The variance of a row: the mean of the squares of the centred entries. -/
def variance (p : Fin 32 → EReal) : EReal := Ideal.div (∑ c, (p c - mean p) * (p c - mean p)) width
/-- The normalised row. -/
def layerNorm (p : Fin 32 → EReal) (c : Fin 32) : EReal := Ideal.div (p c - mean p) (Ideal.sqrt (variance p + eps))

theorem div_width (x : EReal) : Ideal.div x width = x * (((32 : ℝ)⁻¹ : ℝ) : EReal) := by
  rw [width_eq, Ideal.div, if_neg (by exact_mod_cast (by norm_num : (32 : ℝ) ≠ 0)), EReal.coe_inv]
theorem div_width_coe (x : ℝ) : Ideal.div (x : EReal) width = ((x * (32 : ℝ)⁻¹ : ℝ) : EReal) := by
  rw [div_width, EReal.coe_mul]
theorem div_width_top : Ideal.div ⊤ width = ⊤ := by
  rw [div_width, EReal.top_mul_coe_of_pos (by norm_num)]
theorem div_width_bot : Ideal.div ⊥ width = ⊥ := by
  rw [div_width, EReal.bot_mul_coe_of_pos (by norm_num)]

theorem sqrt_coe {r : ℝ} (h : 0 ≤ r) : Ideal.sqrt (r : EReal) = (Real.sqrt r : EReal) := by
  show (if r < 0 then (⊥ : EReal) else (Real.sqrt r : EReal)) = _
  rw [if_neg (not_lt.2 h)]

/-- An infinite centred row has variance `⊤`. -/
theorem variance_top {p : Fin 32 → EReal} (h : ∀ c, (p c - mean p) * (p c - mean p) = ⊤) : variance p = ⊤ := by
  rw [variance, sum_top (Finset.mem_univ 0) (h 0) (fun i _ => by rw [h i]; exact top_ne_bot), div_width_top]

/-- A row of variance `⊤` is normalised to zero. -/
theorem layerNorm_of_top {p : Fin 32 → EReal} (h : variance p = ⊤) (c : Fin 32) : layerNorm p c = 0 := by
  obtain ⟨e, -, he⟩ := eps_pos
  have hs : Ideal.sqrt (⊤ + eps) = ⊤ := by rw [he, EReal.top_add_coe]; rfl
  rw [layerNorm, h, hs, Ideal.div, if_neg EReal.top_ne_zero, EReal.inv_top, mul_zero]

/-- A row with an infinite entry is normalised to zero. -/
theorem layerNorm_of_infinite {p : Fin 32 → EReal} {a : Fin 32} (ha : p a = ⊥ ∨ p a = ⊤) (c : Fin 32) : layerNorm p c = 0 := by
  have hm : mean p = ⊥ ∨ mean p = ⊤ := by
    by_cases hb : ∃ i, p i = ⊥
    · obtain ⟨i, hi⟩ := hb
      left; rw [mean, sum_bot (Finset.mem_univ i) hi, div_width_bot]
    · have ht : p a = ⊤ := ha.resolve_left fun e => hb ⟨a, e⟩
      right; rw [mean, sum_top (Finset.mem_univ a) ht (fun i _ e => hb ⟨i, e⟩), div_width_top]
  apply layerNorm_of_top
  apply variance_top
  intro i
  have hd : p i - mean p = ⊥ ∨ p i - mean p = ⊤ := by
    rcases hm with hm | hm <;> rw [hm] <;> induction p i using EReal.rec <;> simp
  rcases hd with hd | hd <;> rw [hd]
  · exact EReal.bot_mul_bot
  · exact EReal.top_mul_top

/-- A normalised row is real, whatever the row. -/
theorem layerNorm_real (p : Fin 32 → EReal) : ∃ u : Fin 32 → ℝ, ∀ c, layerNorm p c = (u c : EReal) := by
  by_cases h : ∃ a, p a = ⊥ ∨ p a = ⊤
  · obtain ⟨a, ha⟩ := h
    exact ⟨fun _ => 0, fun c => by rw [layerNorm_of_infinite ha c, EReal.coe_zero]⟩
  · have hr : ∀ c, ∃ r : ℝ, p c = (r : EReal) := fun c => by
      lift p c to ℝ using ⟨fun e => h ⟨c, .inr e⟩, fun e => h ⟨c, .inl e⟩⟩ with r hr
      exact ⟨r, rfl⟩
    choose q hq using hr
    obtain ⟨e, he, hee⟩ := eps_pos
    have hm : mean p = (((∑ c, q c) * (32 : ℝ)⁻¹ : ℝ) : EReal) := by
      rw [mean, Finset.sum_congr rfl fun c _ => hq c, coe_sum, div_width_coe]
    generalize (∑ c, q c) * (32 : ℝ)⁻¹ = μ at hm
    have hv : variance p = (((∑ c, (q c - μ) * (q c - μ)) * (32 : ℝ)⁻¹ : ℝ) : EReal) := by
      rw [variance, Finset.sum_congr rfl fun c _ => show _ = (((q c - μ) * (q c - μ) : ℝ) : EReal) by
        rw [hm, hq c, EReal.coe_mul, EReal.coe_sub], coe_sum, div_width_coe]
    have hnn : 0 ≤ (∑ c, (q c - μ) * (q c - μ)) * (32 : ℝ)⁻¹ :=
      mul_nonneg (Finset.sum_nonneg fun c _ => mul_self_nonneg _) (by norm_num)
    generalize (∑ c, (q c - μ) * (q c - μ)) * (32 : ℝ)⁻¹ = v at hv hnn
    have hpos : 0 < Real.sqrt (v + e) := Real.sqrt_pos.2 (by linarith)
    refine ⟨fun c => (q c - μ) * (Real.sqrt (v + e))⁻¹, fun c => ?_⟩
    rw [layerNorm, hv, hee, ← EReal.coe_add, sqrt_coe (by linarith), hm, hq c, Ideal.div,
      if_neg (by exact_mod_cast hpos.ne'), ← EReal.coe_sub, ← EReal.coe_inv, ← EReal.coe_mul]

/-! ### The two rankings of the codes -/

/-- What the kernel ranks code `j` by: one sum over the code's 32 entries and its squared norm. -/
def score (y : Fin 32 → EReal) (cb : Fin 8192 → Fin 32 → EReal) (j : Fin 8192) : EReal :=
  (∑ c, Ideal.ofBits .f32 0xC0000000#32 * y c * cb j c) + ∑ c, cb j c * cb j c

/-- The reference's distance from `y` to code `j`. -/
def dist (y : Fin 32 → EReal) (cb : Fin 8192 → Fin 32 → EReal) (j : Fin 8192) : EReal :=
  Ideal.sqrt (max ((∑ c, y c * y c) - Ideal.ofBits .f32 0x40000000#32 * (∑ c, y c * cb j c) + ∑ c, cb j c * cb j c) 0)

/-- The real form of `score`. -/
def scoreR (u : Fin 32 → ℝ) (v : Fin 32 → ℝ) : ℝ := (∑ c, -2 * u c * v c) + ∑ c, v c * v c

/-- The squared distance is the score plus the squared norm of the token, … -/
theorem sq_dist_eq (u v : Fin 32 → ℝ) :
    (∑ c, u c * u c) - 2 * (∑ c, u c * v c) + ∑ c, v c * v c = (∑ c, u c * u c) + scoreR u v := by
  rw [scoreR, Finset.mul_sum, ← add_assoc, sub_eq_add_neg, ← Finset.sum_neg_distrib]
  congr 2
  exact Finset.sum_congr rfl fun c _ => by ring

/-- … and a sum of squares. -/
theorem sq_dist_nonneg (u v : Fin 32 → ℝ) : 0 ≤ (∑ c, u c * u c) + scoreR u v := by
  have h : (∑ c, u c * u c) + scoreR u v = ∑ c, (u c - v c) * (u c - v c) := by
    rw [scoreR, ← Finset.sum_add_distrib, ← Finset.sum_add_distrib]
    exact Finset.sum_congr rfl fun c _ => by ring
  rw [h]; exact Finset.sum_nonneg fun c _ => mul_self_nonneg _

section Real
variable {y : Fin 32 → EReal} {cb : Fin 8192 → Fin 32 → EReal} {u : Fin 32 → ℝ} {v : Fin 8192 → Fin 32 → ℝ}

theorem score_coe (hu : ∀ c, y c = (u c : EReal)) (hv : ∀ j c, cb j c = (v j c : EReal)) (j : Fin 8192) :
    score y cb j = (scoreR u (v j) : EReal) := by
  rw [score, neg_two_eq,
    Finset.sum_congr rfl fun c _ => show _ = ((-2 * u c * v j c : ℝ) : EReal) by rw [hu c, hv j c, EReal.coe_mul, EReal.coe_mul],
    Finset.sum_congr rfl fun c _ => show cb j c * cb j c = ((v j c * v j c : ℝ) : EReal) by rw [hv j c, EReal.coe_mul],
    coe_sum, coe_sum, ← EReal.coe_add, scoreR]

theorem dist_coe (hu : ∀ c, y c = (u c : EReal)) (hv : ∀ j c, cb j c = (v j c : EReal)) (j : Fin 8192) :
    dist y cb j = (Real.sqrt ((∑ c, u c * u c) + scoreR u (v j)) : EReal) := by
  rw [dist, two_eq,
    Finset.sum_congr rfl fun c _ => show y c * y c = ((u c * u c : ℝ) : EReal) by rw [hu c, EReal.coe_mul],
    Finset.sum_congr rfl fun c _ => show y c * cb j c = ((u c * v j c : ℝ) : EReal) by rw [hu c, hv j c, EReal.coe_mul],
    Finset.sum_congr rfl fun c _ => show cb j c * cb j c = ((v j c * v j c : ℝ) : EReal) by rw [hv j c, EReal.coe_mul],
    coe_sum, coe_sum, coe_sum, ← EReal.coe_mul, ← EReal.coe_sub, ← EReal.coe_add, sq_dist_eq,
    max_eq_left (by exact_mod_cast sq_dist_nonneg u (v j)), sqrt_coe (sq_dist_nonneg u (v j))]

/-- The two rankings order the codes alike. -/
theorem dist_le_iff (hu : ∀ c, y c = (u c : EReal)) (hv : ∀ j c, cb j c = (v j c : EReal)) (i j : Fin 8192) :
    dist y cb i ≤ dist y cb j ↔ score y cb i ≤ score y cb j := by
  rw [dist_coe hu hv, dist_coe hu hv, score_coe hu hv, score_coe hu hv, EReal.coe_le_coe_iff, EReal.coe_le_coe_iff,
    Real.sqrt_le_sqrt_iff (sq_dist_nonneg u (v j))]
  exact add_le_add_iff_left _

theorem dist_lt_iff (hu : ∀ c, y c = (u c : EReal)) (hv : ∀ j c, cb j c = (v j c : EReal)) (i j : Fin 8192) :
    dist y cb i < dist y cb j ↔ score y cb i < score y cb j := by
  rw [← not_le, ← not_le, dist_le_iff hu hv]

end Real

/-! ### The first least index -/

/-- `n` is the first index at which `g` is least. -/
def IsFirstLeast {N : Nat} (g : Fin N → EReal) (n : Fin N) : Prop := (∀ j, g n ≤ g j) ∧ ∀ j, j < n → g n < g j

/-- There is such an index: the least one under the order by value, then by position. -/
theorem exists_isFirstLeast {N : Nat} [NeZero N] (g : Fin N → EReal) : ∃ n, IsFirstLeast g n := by
  obtain ⟨n, -, hn⟩ := Finset.exists_min_image (Finset.univ : Finset (Fin N)) (fun j => toLex (g j, j)) ⟨0, Finset.mem_univ 0⟩
  have h : ∀ j, g n < g j ∨ g n = g j ∧ n ≤ j := fun j => by
    simpa [Prod.Lex.le_iff] using hn j (Finset.mem_univ j)
  refine ⟨n, fun j => ?_, fun j hj => ?_⟩
  · rcases h j with h | h
    · exact h.le
    · exact h.1.le
  · rcases h j with h | h
    · exact h
    · exact absurd hj (not_lt.2 h.2)

/-- For a normalised row and a finite codebook, the first code of least score is the first code of least distance. -/
theorem firstLeast_dist (p : Fin 32 → EReal) {cb : Fin 8192 → Fin 32 → EReal} (hcb : ∀ j c, ∃ r : ℝ, cb j c = (r : EReal))
    {n : Fin 8192} (h : IsFirstLeast (score (layerNorm p) cb) n) : IsFirstLeast (dist (layerNorm p) cb) n := by
  obtain ⟨u, hu⟩ := layerNorm_real p
  choose v hv using hcb
  exact ⟨fun j => (dist_le_iff hu hv n j).2 (h.1 j), fun j hj => (dist_lt_iff hu hv n j).2 (h.2 j hj)⟩

/-- For a normalised row and a finite codebook, a code nearer than all others has a score below all others: a unique least distance
    leaves the kernel's arg-min no tie. -/
theorem unique_score (p : Fin 32 → EReal) {cb : Fin 8192 → Fin 32 → EReal} (hcb : ∀ j c, ∃ r : ℝ, cb j c = (r : EReal))
    {n : Fin 8192} (h : ∀ j, j ≠ n → dist (layerNorm p) cb n < dist (layerNorm p) cb j) (j : Fin 8192) (hj : j ≠ n) :
    score (layerNorm p) cb n < score (layerNorm p) cb j := by
  obtain ⟨u, hu⟩ := layerNorm_real p
  choose v hv using hcb
  exact (dist_lt_iff hu hv n j).1 (h j hj)

/-- The code of a token: the first index of least score, as a word. -/
def code (X : Fin 768 → EReal) (W : Fin 32 → Fin 768 → EReal) (cb : Fin 8192 → Fin 32 → EReal) : BitVec 32 :=
  BitVec.ofNat 32 (Classical.choose (exists_isFirstLeast (score (layerNorm (proj X W)) cb))).val

/-- What `code` is chosen by. -/
theorem code_spec (X : Fin 768 → EReal) (W : Fin 32 → Fin 768 → EReal) (cb : Fin 8192 → Fin 32 → EReal) :
    ∃ n : Fin 8192, IsFirstLeast (score (layerNorm (proj X W)) cb) n ∧ code X W cb = BitVec.ofNat 32 n.val :=
  ⟨_, Classical.choose_spec (exists_isFirstLeast (score (layerNorm (proj X W)) cb)), rfl⟩

end Cert.Proof.Rpq

end
-- ==== Proof.Kernel.lean ====
/-
  One grid point of the kernel: what the body computes from a block of 128 tokens and the two tables.

  The body is cut into stages (`projBlk`, `meanBlk`, `centredBlk`, `normBlk`, `scoreBlk`), each with a theorem that reads it at one
  place in the terms of `Math.lean`. The scores come from one product: a token's normalised row times `-2`, followed by a one,
  against a code followed by its squared norm. `pay_of_isFirstLeast` puts the stages together: the stored word of a token is the
  first index at which its score is least.
-/
module

public import proofs.«01_k».proof.Proof.Math
public import proofs.«01_k».proof.Proof.Gen.KernelIdeal
public import proofs.«01_k».proof.Proof.Gen.KernelIdeal.Frame
public import Idealize.ShloMosaic.Lib.Claim
public import Idealize.ShloMosaic.Lib.Pointwise

@[expose] public section

noncomputable section

namespace Cert.Proof.Rpq

open Idealize.ShloMosaic Cert.KernelIdeal Cert.KernelIdeal.Gen
open scoped BigOperators

/-- An arg-min over the second axis is the first index at which the row is least. -/
theorem reduceIndex_of_isFirstLeast {a b : Nat} {t : Shape} (h : (⟨2, ![a, b]⟩ : Shape).Reduces [1] t)
    (x : (⟨2, ![a, b]⟩ : Shape).Idx → EReal) (j : t.Idx) {n : Fin b}
    (hn : IsFirstLeast (fun k : Fin b => x (ix2 ⟨(j ⟨0, h.lt_r2_a1_0⟩).val, Shape.coordLt (j ⟨0, h.lt_r2_a1_0⟩) h.size_r2_a1_0⟩ k)) n) :
    Ideal.reduceIndex .argMin 1 h x j = BitVec.ofNat 32 n.val := by
  classical
  unfold Ideal.reduceIndex
  extract_lets fiber beats ext
  have hb : ∀ u v, beats u v ↔ u < v := fun u v => by simp [beats]
  have hext : ∀ i, i ∈ ext ↔ ∃ k : Fin b, ix2 ⟨(j ⟨0, h.lt_r2_a1_0⟩).val, Shape.coordLt (j ⟨0, h.lt_r2_a1_0⟩) h.size_r2_a1_0⟩ k = i
      ∧ ∀ k', x (ix2 ⟨(j ⟨0, h.lt_r2_a1_0⟩).val, Shape.coordLt (j ⟨0, h.lt_r2_a1_0⟩) h.size_r2_a1_0⟩ k) ≤ x (ix2 ⟨(j ⟨0, h.lt_r2_a1_0⟩).val, Shape.coordLt (j ⟨0, h.lt_r2_a1_0⟩) h.size_r2_a1_0⟩ k') := by
    intro i
    simp only [ext, fiber, Finset.mem_filter, Finset.mem_univ, true_and, hb, not_lt, h.fiber_r2_a1]
    constructor
    · rintro ⟨⟨k, rfl⟩, hk⟩
      exact ⟨k, rfl, fun k' => hk _ ⟨k', rfl⟩⟩
    · rintro ⟨k, rfl, hk⟩
      exact ⟨⟨k, rfl⟩, by rintro _ ⟨k', rfl⟩; exact hk k'⟩
  have hmin : (ext.image fun i => (i 1).val).min = ((n.val : ℕ) : WithTop ℕ) := by
    apply le_antisymm
    · refine Finset.min_le (Finset.mem_image.2 ⟨_, (hext _).2 ⟨n, rfl, hn.1⟩, rfl⟩)
    · refine Finset.le_min fun m hm => ?_
      obtain ⟨i, hi, rfl⟩ := Finset.mem_image.1 hm
      obtain ⟨k, rfl, hk⟩ := (hext i).1 hi
      refine WithTop.coe_le_coe.2 (not_lt.1 fun hlt => ?_)
      exact absurd (hn.2 k hlt) (not_lt.2 (hk n))
  rw [hmin]; rfl

/-! ### The body's payload, stage by stage -/

/-- The projected rows of a block of tokens. -/
def projBlk (v0 : FVec Ideal S128x768 .f32) (v2 : FVec Ideal S32x768 .f32) : FVec Ideal S128x32 .f32 :=
  matmul (φ₁ := .bf16) (φ₂ := .bf16) dot_S128x768_S32x768_S128x32_1_1_0_0_n_n none
    (truncf .bf16 (shapeCast S128x768 v0 shapeCasts_S128x768_S128x768) bitsLt_bf16_f32) (truncf .bf16 v2 bitsLt_bf16_f32)
    (constant S128x32 .f32 0x00000000#32)

/-- The mean of every row, as a column. -/
def meanBlk (z : FVec Ideal S128x32 .f32) : FVec Ideal S128x1 .f32 :=
  divf (shapeCast S128x1 (multiReduction .add [1] S128 z 0x00000000#32 reduces_S128x32_S128 (.inl rfl) rfl) shapeCasts_S128_S128x1)
    (broadcast S128x1 (Scalar.ofBits .f32 0x42000000#32))

/-- The rows with their means subtracted. -/
def centredBlk (z : FVec Ideal S128x32 .f32) : FVec Ideal S128x32 .f32 :=
  subf z (broadcastTo S128x32 (meanBlk z) broadcasts_S128x1_S128x32)

/-- The normalised rows. -/
def normBlk (z : FVec Ideal S128x32 .f32) : FVec Ideal S128x32 .f32 :=
  divf (centredBlk z)
    (broadcastTo S128x32 (sqrt (addf (meanBlk (mulf (centredBlk z) (centredBlk z))) (broadcast S128x1 (Scalar.ofBits .f32 0x3727C5AC#32))))
      broadcasts_S128x1_S128x32)

/-- The normalised rows times `-2`, each followed by a one. -/
def lhsBlk (y : FVec Ideal S128x32 .f32) : FVec Ideal S128x33 .bf16 :=
  concatenate S128x33 1 [⟨S128x32, truncf .bf16 (mulf (broadcast S128x32 (Scalar.ofBits .f32 0xC0000000#32)) y) bitsLt_bf16_f32⟩,
    ⟨S128x1, broadcast S128x1 (Scalar.ofBits .bf16 0x3F80#16)⟩] concatenates_S128x32_S128x1_S128x33_d1

/-- The codes, each followed by its squared norm. -/
def rhsBlk (cb : FVec Ideal S8192x32 .f32) : FVec Ideal S8192x33 .bf16 :=
  concatenate S8192x33 1 [⟨S8192x32, truncf .bf16 cb bitsLt_bf16_f32⟩,
    ⟨S8192x1, truncf .bf16 (shapeCast S8192x1 (multiReduction .add [1] S8192 (mulf cb cb) 0x00000000#32 reduces_S8192x32_S8192 (.inl rfl) rfl)
      shapeCasts_S8192_S8192x1) bitsLt_bf16_f32⟩] concatenates_S8192x32_S8192x1_S8192x33_d1

/-- The score of every code for every token of the block. -/
def scoreBlk (y : FVec Ideal S128x32 .f32) (cb : FVec Ideal S8192x32 .f32) : FVec Ideal S128x8192 .f32 :=
  matmul dot_S128x33_S8192x33_S128x8192_1_1_0_0_n_n none (lhsBlk y) (rhsBlk cb) (constant S128x8192 .f32 0x00000000#32)

/-- The payload is the arg-min of the scores. -/
theorem pay_eq (v0 : Vec Ideal S128x768 .f32) (v2 : Vec Ideal S32x768 .f32) (v26 : Vec Ideal S8192x32 .f32) :
    k0_pay1 v0 v2 v26
      = reduceIndex .argMin 1 S128 (scoreBlk (normBlk (projBlk v0 v2)) v26) reduces_S128x8192_S128 := rfl

theorem projBlk_apply (v0 : FVec Ideal S128x768 .f32) (v2 : FVec Ideal S32x768 .f32) (i : Fin 128) (c : Fin 32) :
    projBlk v0 v2 (ix2 i c) = proj (fun k => v0 (ix2 i k)) (fun c k => v2 (ix2 c k)) c := by
  pointwise [projBlk, proj]

theorem meanBlk_apply (z : FVec Ideal S128x32 .f32) (i : Fin 128) (l : Fin 1) :
    meanBlk z (ix2 i l) = mean fun c => z (ix2 i c) := by
  pointwise [meanBlk, mean]

theorem centredBlk_apply (z : FVec Ideal S128x32 .f32) (i : Fin 128) (c : Fin 32) :
    centredBlk z (ix2 i c) = z (ix2 i c) - mean fun c => z (ix2 i c) := by
  pointwise [centredBlk, meanBlk_apply]

theorem normBlk_apply (z : FVec Ideal S128x32 .f32) (i : Fin 128) (c : Fin 32) :
    normBlk z (ix2 i c) = layerNorm (fun c => z (ix2 i c)) c := by
  pointwise [normBlk, centredBlk_apply, meanBlk_apply, layerNorm, variance]
  rfl

theorem scoreBlk_apply (y : FVec Ideal S128x32 .f32) (cb : FVec Ideal S8192x32 .f32) (i : Fin 128) (j : Fin 8192) :
    scoreBlk y cb (ix2 i j) = score (fun c => y (ix2 i c)) (fun j c => cb (ix2 j c)) j := by
  pointwise [scoreBlk, score, lhsBlk, rhsBlk]
  exact congrArg _ (Fin.sum_univ_one _)

/-- The block of codes the body stores. -/
theorem pay_of_isFirstLeast (v0 : Vec Ideal S128x768 .f32) (v2 : Vec Ideal S32x768 .f32) (v26 : Vec Ideal S8192x32 .f32) (i : Fin 128) {n : Fin 8192}
    (hn : IsFirstLeast (score (layerNorm (proj (fun k => v0 (ix2 i k)) fun c k => v2 (ix2 c k))) fun j c => v26 (ix2 j c)) n) :
    k0_pay1 v0 v2 v26 (ix1 i) = BitVec.ofNat 32 n.val := by
  rw [pay_eq]
  simp only [reduceIndex, Ideal.reduceIndex_def]
  apply reduceIndex_of_isFirstLeast
  convert hn using 1
  funext j
  refine (scoreBlk_apply _ _ i j).trans ?_
  simp only [normBlk_apply, projBlk_apply]

end Cert.Proof.Rpq

end
-- ==== Proof.KernelRun.lean ====
/-
  The kernel's run: after it the result holds `code` of every token, and the arguments are unchanged (`run`).

  The grid has 18 points, each taking 128 of the 2304 flattened tokens. The region's array is therefore `flatCodes`, one word for
  every flattened token; the reshape after the region reads it back at a batch and a position (`result_apply`).
-/
module

public import proofs.«01_k».proof.Proof.Kernel
public import Idealize.ShloMosaic.Lib.Pipeline.ValueKit
public import Idealize.ShloMosaic.Lib.StableHlo.RunHlo
public import Idealize.ShloMosaic.Adequacy
public import Idealize.ShloMosaic.Init

@[expose] public section

noncomputable section

namespace Cert.Proof.Rpq

open Idealize.ShloMosaic Idealize.SL.Sem Cert.KernelIdeal Cert.KernelIdeal.Gen

variable (m : (ℓ : Loc nD τ sig) → Buf (Elt Ideal) ℓ) (c : Dev nD)

/-- The codes the region writes: one word for every token. -/
def flatCodes : S2304.Idx → BitVec 32 := fun r =>
  code (fun k => shapeCast S2304x768 (m (c.tc.loc main_arg0)) shapeCasts_S4x576x768_S2304x768 (ix2 (r 0) k))
    (fun l k => m (c.tc.loc main_arg1) (ix2 l k)) (fun j l => m (c.tc.loc main_arg2) (ix2 j l))

/-- The block every grid point reads and writes: the tokens move with the point, the two tables stay. -/
theorem idx (t : Fin cfg0.grid.N) : win0_0.index t 0 = t.val ∧ win0_0.index t 1 = 0 ∧ win0_1.index t 0 = 0 ∧ win0_1.index t 1 = 0
    ∧ win0_2.index t 0 = 0 ∧ win0_2.index t 1 = 0 ∧ win0_3.index t 0 = t.val := by
  revert t; decide +kernel

/-- What the region finds in the flattened tokens' buffer. -/
theorem entry_tokens : V m c main_v0 = shapeCast S2304x768 (m (c.tc.loc main_arg0)) shapeCasts_S4x576x768_S2304x768 := by
  unfold V V0
  rw [List.flatten_cons, List.flatten_nil, List.append_nil, hostOps0]
  after_results
  rfl

/-- The region leaves `flatCodes` in its result array. -/
theorem arr_eq : (dats m 0 c).arrAt 3 cfg0.N = flatCodes m c := by
  refine (dats m 0 c).arrAt_eq_of_covers 3 _ (by decide +kernel) fun t hf y => ?_
  blk_simp
  rw [after0_3]
  frame_out
  obtain ⟨q, rfl⟩ : ∃ q, y = ix1 q := ⟨y 0, by funext i; fin_cases i; rfl⟩
  have hx : ∀ k, (iblk m c 0 t : FVec Ideal S128x768 .f32) (ix2 q k)
      = shapeCast S2304x768 (m (c.tc.loc main_arg0)) shapeCasts_S4x576x768_S2304x768
          (ix2 ((((View.whole main_v1).slice (win0_3.rect t)).emb (ix1 q)) 0) k) := by
    intro k
    blk_simp [iblk]
    rw [entry_tokens]
    blk_ext [idx t]
  have hW : ∀ l k, (iblk m c 1 t : FVec Ideal S32x768 .f32) (ix2 l k) = m (c.tc.loc main_arg1) (ix2 l k) := by
    intro l k
    blk_ext [iblk, V_main_arg1, idx t]
  have hC : ∀ j l, (iblk m c 2 t : FVec Ideal S8192x32 .f32) (ix2 j l) = m (c.tc.loc main_arg2) (ix2 j l) := by
    intro j l
    blk_ext [iblk, V_main_arg2, idx t]
  unfold flatCodes
  generalize (((View.whole main_v1).slice (win0_3.rect t)).emb (ix1 q)) 0 = r at hx ⊢
  obtain ⟨n, hn, he⟩ := code_spec
    (fun k => shapeCast S2304x768 (m (c.tc.loc main_arg0)) shapeCasts_S4x576x768_S2304x768 (ix2 r k))
    (fun l k => m (c.tc.loc main_arg1) (ix2 l k)) (fun j l => m (c.tc.loc main_arg2) (ix2 j l))
  rw [he]
  refine pay_of_isFirstLeast _ _ _ q ?_
  simp only [hx, hW, hC]
  exact hn

/-- The program's result: the region's array in the tokens' own shape. -/
theorem tail_eq : Pipeline.afterTail₀ cfgs (dats m) 0 (V0 m) [hostOps1] c main_v2
    = shapeCast S4x576 (flatCodes m c) shapeCasts_S2304_S4x576 := by
  unfold Pipeline.afterTail₀
  have h := Pipeline.withArrays_arr (cfgs 0).spec launch0.win.arr_inj c (V0 m c) (fun w => (dats m 0 c).arrAt w (cfgs 0).N) 3
  rw [List.flatten_cons, List.flatten_nil, List.append_nil, hostOps1]
  after_results
  funext i
  show shapeCast S4x576 _ _ i = _
  exact congrArg (fun A => shapeCast S4x576 A shapeCasts_S2304_S4x576 i) (h.trans (arr_eq m c))

/-- The tokens are flattened row by row. -/
theorem tokens_apply (x : FVec Ideal S4x576x768 .f32) (h : S4x576x768.ShapeCasts S2304x768) (b : Fin 4) (l : Fin 576)
    (r : Fin 2304) (hr : r.val = b.val * 576 + l.val) (k : Fin 768) : shapeCast S2304x768 x h (ix2 r k) = x (ix3 b l k) := by
  pointwise
  have h1 : r.val / 576 = b.val := by omega
  have h2 : r.val % 576 = l.val := by omega
  simp only [h1, h2]

/-- The codes are read back in the same order. -/
theorem codes_apply (X : S2304.Idx → BitVec 32) (h : S2304.ShapeCasts S4x576) (b : Fin 4) (l : Fin 576) :
    shapeCast S4x576 X h (ix2 b l) = X (ix1 ⟨b.val * 576 + l.val, by omega⟩) := by
  pointwise

/-- The result at a token is that token's code. -/
theorem result_apply (b : Fin 4) (l : Fin 576) : shapeCast S4x576 (flatCodes m c) shapeCasts_S2304_S4x576 (ix2 b l)
    = code (fun k => m (c.tc.loc main_arg0) (ix3 b l k)) (fun l k => m (c.tc.loc main_arg1) (ix2 l k))
        (fun j l => m (c.tc.loc main_arg2) (ix2 j l)) := by
  rw [codes_apply]
  exact congrArg (fun X => code X (fun l k => m (c.tc.loc main_arg1) (ix2 l k)) fun j l => m (c.tc.loc main_arg2) (ix2 j l))
    (funext fun k => tokens_apply _ _ b l _ rfl k)

/-- The kernel runs, ends with `flatCodes` in the tokens' shape in its result, and leaves its arguments as they were. -/
theorem run (g : Dev nD → PrngReg) :
    θ_run (defs (F := Ideal)) (onTc (τ := τ) (main (F := Ideal))) ⟨m, fun _ => 0, g⟩ fun r => ∀ c : Dev nD,
      r.2.mem (c.tc.loc main_v2) = shapeCast S4x576 (flatCodes m c) shapeCasts_S2304_S4x576
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine θ_run_mono (θ_run_and (run_main m g) (unchanged m g)) fun r h c => ⟨?_, h.2 c⟩
  exact ((h.1 c).2 main_v2 (Pipeline.mem_restRefs_of main_v2 (by decide) (by decide))).trans (tail_eq m c)

end Cert.Proof.Rpq

end
-- ==== Proof.Reference.lean ====
/-
  The reference's values, stage by stage, and its arg-min.

  Every stage of the reference has a definition and a theorem that reads it at one place in the terms of `Math.lean`. The arg-min is
  a fold over pairs of a distance and an index; its reducer keeps the pair that is smaller by value and then by index (`reducer_eq`),
  so the fold ends in the first index of least distance (`argMin_of_isFirstLeast`). `codes_eq` reads the reference's result: for a
  finite codebook it is `code` of every token, the word the kernel writes.
-/
module

public import proofs.«01_k».proof.Proof.Math
public import proofs.«01_k».proof.Proof.Gen.ReferenceIdeal
public import Idealize.ShloMosaic.Lib.Claim
public import Idealize.ShloMosaic.Lib.Pointwise

@[expose] public section

noncomputable section

namespace Cert.Proof.Rpq.Ref

open Idealize.ShloMosaic Cert.ReferenceIdeal Cert.ReferenceIdeal.Gen
open scoped BigOperators

/-! ### The reference's values -/

/-- The projection of every token. -/
def z (x : FVec Ideal S4x576x768 .f32) (W : FVec Ideal S32x768 .f32) : FVec Ideal S4x576x32 .f32 :=
  Host.dotGeneral dot_S4x576x768_S768x32_S4x576x32_2_0_01_1_n_n none x (transpose S768x32 [1, 0] W transposes_S32x768_S768x32_1_0)

/-- The sum over the last axis, kept as an axis of one. -/
def total (z : FVec Ideal S4x576x32 .f32) : FVec Ideal S4x576x1 .f32 :=
  broadcastInDim S4x576x1 ![0, 1] bcast_S4x576_S4x576x1_0_1
    (Host.reduceAdd z (constant S_ .f32 0x00000000#32) reducesTo_S4x576x32_S4x576_d2 h_S_)

/-- The mean of every row. -/
def mu (z : FVec Ideal S4x576x32 .f32) : FVec Ideal S4x576x1 .f32 :=
  Host.divf (total z) (broadcastInDim S4x576x1 ![] bcast_S_S4x576x1 (constant S_ .f32 0x42000000#32))

/-- The rows with their means subtracted. -/
def centred (z : FVec Ideal S4x576x32 .f32) : FVec Ideal S4x576x32 .f32 :=
  subf z (broadcastInDim S4x576x32 ![0, 1, 2] bcast_S4x576x1_S4x576x32_0_1_2 (mu z))

/-- The number of degrees of freedom the variance divides by: 32 less 0. -/
def dof : FVec Ideal S_ .f32 := subf (constant S_ .f32 0x42000000#32) (sitofp .f32 (constantI S_ 32 0#32))

/-- The variance of every row. -/
def var (z : FVec Ideal S4x576x32 .f32) : FVec Ideal S4x576x1 .f32 :=
  select (broadcastInDim S4x576x1 ![] bcast_S_S4x576x1 (cmpf .ogt dof (constant S_ .f32 0x00000000#32)))
    (Host.divf (total (mulf (centred z) (centred z))) (broadcastInDim S4x576x1 ![] bcast_S_S4x576x1 dof))
    (broadcastInDim S4x576x1 ![] bcast_S_S4x576x1 (constant S_ .f32 0x7FC00000#32))

/-- The normalised rows. -/
def norm (z : FVec Ideal S4x576x32 .f32) : FVec Ideal S4x576x32 .f32 :=
  Host.divf (centred z)
    (broadcastInDim S4x576x32 ![0, 1, 2] bcast_S4x576x1_S4x576x32_0_1_2
      (Host.sqrt (addf (var z) (broadcastInDim S4x576x1 ![] bcast_S_S4x576x1 (constant S_ .f32 0x3727C5AC#32)))))

/-- The distance from every row to every code. -/
def distances (y : FVec Ideal S4x576x32 .f32) (cb : FVec Ideal S8192x32 .f32) : FVec Ideal S4x576x8192 .f32 :=
  Host.sqrt (maximumf
    (addf
      (subf (broadcastInDim S4x576x8192 ![0, 1, 2] bcast_S4x576x1_S4x576x8192_0_1_2 (total (mulf y y)))
        (mulf (broadcastInDim S4x576x8192 ![] bcast_S_S4x576x8192 (constant S_ .f32 0x40000000#32))
          (Host.dotGeneral dot_S4x576x32_S32x8192_S4x576x8192_2_0_01_1_n_n none y (transpose S32x8192 [1, 0] cb transposes_S8192x32_S32x8192_1_0))))
      (broadcastInDim S4x576x8192 ![0, 1, 2] bcast_S1x1x8192_S4x576x8192_0_1_2
        (broadcastInDim S1x1x8192 ![2] bcast_S8192_S1x1x8192_2
          (Host.reduceAdd (mulf cb cb) (constant S_ .f32 0x00000000#32) reducesTo_S8192x32_S8192_d1 h_S_))))
    (broadcastInDim S4x576x8192 ![] bcast_S_S4x576x8192 (constant S_ .f32 0x00000000#32)))

/-- The index half of an arg-min reduction, at any shapes. -/
def argMinOf {s t u : Shape} {axes : List (Fin s.rank)} (h : s.ReducesTo axes t) (hu : 0 < u.numel) (x : FVec Ideal s .f32)
    (y : IVec s 32) (ix : FVec Ideal u .f32) (iy : IVec u 32) : IVec t 32 := fun j =>
  (Host.argReduce reducer_argmin_f32_i32 x y ix iy h hu j).2

/-- The codes. -/
def codes (d : FVec Ideal S4x576x8192 .f32) : IVec S4x576 32 :=
  argMinOf reducesTo_S4x576x8192_S4x576_d2 h_S_ d (iotaInDim S4x576x8192 32 2) (constant S_ .f32 0x7F800000#32) (constantI S_ 32 0#32)

/-! ### The values at an index -/

theorem z_apply (x : FVec Ideal S4x576x768 .f32) (W : FVec Ideal S32x768 .f32) (b : Fin 4) (l : Fin 576) (c : Fin 32) :
    z x W (ix3 b l c) = proj (fun k => x (ix3 b l k)) (fun c k => W (ix2 c k)) c := by
  pointwise [z, proj]

theorem total_apply (z : FVec Ideal S4x576x32 .f32) (b : Fin 4) (l : Fin 576) (o : Fin 1) :
    total z (ix3 b l o) = ∑ c, z (ix3 b l c) := by
  pointwise [total]

theorem mu_apply (z : FVec Ideal S4x576x32 .f32) (b : Fin 4) (l : Fin 576) (o : Fin 1) :
    mu z (ix3 b l o) = mean fun c => z (ix3 b l c) := by
  pointwise [mu, total_apply, mean]

theorem centred_apply (z : FVec Ideal S4x576x32 .f32) (b : Fin 4) (l : Fin 576) (c : Fin 32) :
    centred z (ix3 b l c) = z (ix3 b l c) - mean fun c => z (ix3 b l c) := by
  pointwise [centred, mu_apply]

theorem dof_apply (i : S_.Idx) : dof i = width := by
  show Ideal.ofBits .f32 0x42000000#32 - ((((0#32 : BitVec 32).toInt : ℤ) : ℝ) : EReal) = width
  simp

theorem var_apply (z : FVec Ideal S4x576x32 .f32) (b : Fin 4) (l : Fin 576) (o : Fin 1) :
    var z (ix3 b l o) = variance fun c => z (ix3 b l c) := by
  pointwise [var, total_apply, centred_apply, dof_apply, variance]
  rw [if_pos (by rw [width_eq]; exact_mod_cast (by norm_num : (0 : ℝ) < 32))]

theorem norm_apply (z : FVec Ideal S4x576x32 .f32) (b : Fin 4) (l : Fin 576) (c : Fin 32) :
    norm z (ix3 b l c) = layerNorm (fun c => z (ix3 b l c)) c := by
  pointwise [norm, centred_apply, var_apply, layerNorm]

theorem distances_apply (y : FVec Ideal S4x576x32 .f32) (cb : FVec Ideal S8192x32 .f32) (b : Fin 4) (l : Fin 576) (j : Fin 8192) :
    distances y cb (ix3 b l j) = dist (fun c => y (ix3 b l c)) (fun j c => cb (ix2 j c)) j := by
  pointwise [distances, total_apply, dist]

/-! ### The arg-min -/

/-- The order the arg-min's pairs are compared by: the value, then the index. -/
def key (p : EReal × BitVec 32) : EReal ×ₗ ℤ := toLex (p.1, p.2.toInt)

/-- The reference's reducer keeps the pair of smaller key. -/
theorem reducer_eq (a b : EReal × BitVec 32) :
    reducer_argmin_f32_i32 (F := Ideal) a b = if key a < key b then a else b := by
  obtain ⟨a, i⟩ := a
  obtain ⟨b, j⟩ := b
  unfold reducer_argmin_f32_i32
  simp only [Ideal.cmpf_def, Ideal.cmp, key, Prod.Lex.toLex_lt_toLex, IntOp.cmpi, IntOp.ori, IntOp.andi, Scalar.select]
  by_cases h1 : a < b
  · have h2 : a ≠ b := h1.ne
    simp [h1, h2]
  · by_cases h2 : a = b
    · subst h2
      by_cases h3 : i.toInt < j.toInt
      · simp [h3, BitVec.slt]
      · simp [h3, BitVec.slt]
    · simp [h1, h2]

/-- A fold by that reducer ends in one of its pairs, of least key. -/
theorem foldl_reducer (L : List (EReal × BitVec 32)) (a : EReal × BitVec 32) :
    L.foldl (reducer_argmin_f32_i32 (F := Ideal)) a ∈ a :: L
      ∧ ∀ q ∈ a :: L, key (L.foldl (reducer_argmin_f32_i32 (F := Ideal)) a) ≤ key q := by
  induction L generalizing a with
  | nil => simp
  | cons b L ih =>
    rw [List.foldl_cons]
    obtain ⟨h1, h2⟩ := ih (reducer_argmin_f32_i32 (F := Ideal) a b)
    have hr : reducer_argmin_f32_i32 (F := Ideal) a b = a ∨ reducer_argmin_f32_i32 (F := Ideal) a b = b := by
      rw [reducer_eq]; split <;> simp
    have hle := h2 _ (List.mem_cons_self ..)
    have ha : key (reducer_argmin_f32_i32 (F := Ideal) a b) ≤ key a := by
      rw [reducer_eq]; split
      · exact le_rfl
      · exact not_lt.1 ‹_›
    have hb : key (reducer_argmin_f32_i32 (F := Ideal) a b) ≤ key b := by
      rw [reducer_eq]; split
      · exact le_of_lt ‹_›
      · exact le_rfl
    refine ⟨?_, fun q hq => ?_⟩
    · rcases List.mem_cons.1 h1 with h1 | h1
      · rw [h1]; rcases hr with hr | hr <;> rw [hr] <;> simp
      · simp [h1]
    · rcases List.mem_cons.1 hq with rfl | hq
      · exact hle.trans ha
      · rcases List.mem_cons.1 hq with rfl | hq
        · exact hle.trans hb
        · exact h2 q (List.mem_cons_of_mem _ hq)

theorem toInt_ofNat {N : Nat} (hN : N ≤ 8192) (k : Fin N) : (BitVec.ofNat 32 k.val).toInt = k.val := by
  have := k.isLt
  have h : (BitVec.ofNat 32 k.val).toNat = k.val := by rw [BitVec.toNat_ofNat]; omega
  rw [BitVec.toInt_eq_toNat_of_lt (by omega), h]

/-- The pairs a reduction over the last of three axes meets at `j`: one for every place of that axis. -/
theorem mem_argReduceFiber {n0 n1 n2 : Nat} {t : Shape} (h : (⟨3, ![n0, n1, n2]⟩ : Shape).ReducesTo [2] t) {α β : Type}
    (x : (⟨3, ![n0, n1, n2]⟩ : Shape).Idx → α) (y : (⟨3, ![n0, n1, n2]⟩ : Shape).Idx → β) (j : t.Idx) (q : α × β) :
    q ∈ Host.argReduceFiber x y h j
      ↔ ∃ k : Fin n2, q
        = (x (ix3 ⟨(j ⟨0, h.lt_r3_a2_0⟩).val, Shape.coordLt (j ⟨0, h.lt_r3_a2_0⟩) h.size_r3_a2_0⟩
              ⟨(j ⟨1, h.lt_r3_a2_1⟩).val, Shape.coordLt (j ⟨1, h.lt_r3_a2_1⟩) h.size_r3_a2_1⟩ k),
            y (ix3 ⟨(j ⟨0, h.lt_r3_a2_0⟩).val, Shape.coordLt (j ⟨0, h.lt_r3_a2_0⟩) h.size_r3_a2_0⟩
              ⟨(j ⟨1, h.lt_r3_a2_1⟩).val, Shape.coordLt (j ⟨1, h.lt_r3_a2_1⟩) h.size_r3_a2_1⟩ k)) := by
  unfold Host.argReduceFiber
  simp only [List.mem_map, List.mem_filter, List.mem_finRange, true_and, decide_eq_true_eq, h.fiber_r3_a2]
  constructor
  · rintro ⟨i, ⟨k, hk⟩, rfl⟩
    exact ⟨k, by rw [hk]⟩
  · rintro ⟨k, rfl⟩
    exact ⟨_, ⟨k, (Equiv.symm_apply_apply _ _).symm⟩, by rw [Equiv.symm_apply_apply]⟩

/-- An arg-min by the reference's reducer over the last of three axes, from the pair of `⊤` and zero, is the first index at which
    the row is least. -/
theorem argMin_of_isFirstLeast {N : Nat} (hN : N ≤ 8192) (p : EReal × BitVec 32) (L : List (EReal × BitVec 32)) (g : Fin N → EReal)
    (hL : ∀ q, q ∈ L ↔ ∃ k : Fin N, q = (g k, BitVec.ofNat 32 k.val)) (hp : p = (⊤, 0#32)) {n : Fin N}
    (hn : IsFirstLeast g n) : (L.foldl (reducer_argmin_f32_i32 (F := Ideal)) p).2 = BitVec.ofNat 32 n.val := by
  obtain ⟨h1, h2⟩ := foldl_reducer L p
  generalize L.foldl (reducer_argmin_f32_i32 (F := Ideal)) p = r at h1 h2
  have hr := h2 _ (List.mem_cons_of_mem _ ((hL _).2 ⟨n, rfl⟩))
  rw [key, key, Prod.Lex.toLex_le_toLex] at hr
  rcases List.mem_cons.1 h1 with h1 | h1
  · -- the initial pair: the least value is `⊤`, at the first place
    rw [h1, hp] at hr ⊢
    have htop : g n = ⊤ := by
      rcases hr with hr | hr
      · exact absurd hr (not_lt.2 le_top)
      · exact hr.1.symm
    have h0 : n.val = 0 := by
      by_contra hne
      have := hn.2 ⟨0, n.pos⟩ (Fin.lt_def.2 (Nat.pos_of_ne_zero hne))
      rw [htop] at this
      exact absurd this (not_lt.2 le_top)
    rw [h0]
  · obtain ⟨k, rfl⟩ := (hL _).1 h1
    simp only [toInt_ofNat hN] at hr
    have hk : k = n := by
      rcases hr with hr | ⟨he, hle⟩
      · exact absurd hr (not_lt.2 (hn.1 k))
      · refine le_antisymm (by exact_mod_cast hle) (not_lt.1 fun hlt => ?_)
        exact absurd (hn.2 k hlt) (by rw [he]; exact lt_irrefl _)
    rw [hk]

/-- The same, stated of the reduction over any array of three axes. -/
theorem argReduce_of_isFirstLeast {n0 n1 N : Nat} {t u : Shape} (hN : N ≤ 8192) (h : (⟨3, ![n0, n1, N]⟩ : Shape).ReducesTo [2] t)
    (hu : 0 < u.numel) (x : FVec Ideal (⟨3, ![n0, n1, N]⟩ : Shape) .f32) (y : IVec (⟨3, ![n0, n1, N]⟩ : Shape) 32)
    (hy : ∀ i0 i1 k, y (ix3 i0 i1 k) = BitVec.ofNat 32 k.val)
    (ix : FVec Ideal u .f32) (iy : IVec u 32) (hx : ∀ i, ix i = (⊤ : EReal)) (hi : ∀ i, iy i = 0#32) (j : t.Idx) {n : Fin N}
    (hn : IsFirstLeast (fun k => x (ix3 ⟨(j ⟨0, h.lt_r3_a2_0⟩).val, Shape.coordLt (j ⟨0, h.lt_r3_a2_0⟩) h.size_r3_a2_0⟩
              ⟨(j ⟨1, h.lt_r3_a2_1⟩).val, Shape.coordLt (j ⟨1, h.lt_r3_a2_1⟩) h.size_r3_a2_1⟩ k)) n) :
    argMinOf h hu x y ix iy j = BitVec.ofNat 32 n.val := by
  rw [argMinOf, Ideal.argReduce_eq_reduce2, Host.reduce2_eq_foldl_fiber]
  refine argMin_of_isFirstLeast hN _ _ _ (fun q => (mem_argReduceFiber h x y j q).trans ?_) ?_ hn
  · simp only [hy]
  · rw [hx, hi]

theorem iota_apply {n0 n1 N : Nat} (b : Fin n0) (l : Fin n1) (k : Fin N) :
    iotaInDim (⟨3, ![n0, n1, N]⟩ : Shape) 32 2 (ix3 b l k) = BitVec.ofNat 32 k.val := rfl

/-- The reference's arg-min of a row is the first index at which the row is least. -/
theorem codes_of_isFirstLeast (d : FVec Ideal S4x576x8192 .f32) (b : Fin 4) (l : Fin 576) {n : Fin 8192}
    (hn : IsFirstLeast (fun k => d (ix3 b l k)) n) : codes d (ix2 b l) = BitVec.ofNat 32 n.val := by
  unfold codes
  exact argReduce_of_isFirstLeast (le_refl 8192) reducesTo_S4x576x8192_S4x576_d2 h_S_ d (iotaInDim S4x576x8192 32 2) iota_apply
    (constant S_ .f32 0x7F800000#32) (constantI S_ 32 0#32) (fun _ => inf_eq) (fun _ => rfl) (ix2 b l) hn

/-- The reference's result is `code` of every token, for a finite codebook. -/
theorem codes_eq (x : FVec Ideal S4x576x768 .f32) (W : FVec Ideal S32x768 .f32) (cb : FVec Ideal S8192x32 .f32)
    (hcb : ∀ j c, ∃ r : ℝ, cb (ix2 j c) = (r : EReal)) (b : Fin 4) (l : Fin 576) :
    codes (distances (norm (z x W)) cb) (ix2 b l)
      = code (fun k => x (ix3 b l k)) (fun c k => W (ix2 c k)) fun j c => cb (ix2 j c) := by
  obtain ⟨n, hn, he⟩ := code_spec (fun k => x (ix3 b l k)) (fun c k => W (ix2 c k)) fun j c => cb (ix2 j c)
  rw [he]
  apply codes_of_isFirstLeast
  have := firstLeast_dist _ hcb hn
  convert this using 1
  funext j
  simp only [distances_apply, norm_apply, z_apply]

end Cert.Proof.Rpq.Ref

end
-- ==== Proof.RefRun.lean ====
/- The reference's run: what its result holds at the end. -/
module

public import proofs.«01_k».proof.Proof.Reference
public import Idealize.ShloMosaic.Lib.StableHlo.RunHlo
public import Idealize.ShloMosaic.Adequacy
public import Idealize.ShloMosaic.Init

@[expose] public section

noncomputable section

namespace Cert.Proof.Rpq.Ref

open Idealize.ShloMosaic Idealize.SL.Sem Cert.ReferenceIdeal Cert.ReferenceIdeal.Gen

/-- The reference runs, ends with the codes of its arguments in its result, and leaves its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem (c.tc.loc main_v31) = codes (distances (norm (z (m (c.tc.loc main_arg0)) (m (c.tc.loc main_arg1)))) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  hlo_run
  -- the buffers of the called functions hold what was written to them
  simp only [StableHlo.TRef.ofBuf_toBuf]
  have e1 : ∀ p q r v, (StableHlo.TRef.of (T := ⟨S4x576x32, .f32⟩) main_v1 p q r).ofBuf (Val := Elt Ideal) v = v := fun _ _ _ _ => rfl
  have e2 : ∀ p q r v, (StableHlo.TRef.of (T := ⟨S_, .i32⟩) main_c p q r).ofBuf (Val := Elt Ideal) v = v := fun _ _ _ _ => rfl
  have e3 : ∀ p q r v, (StableHlo.TRef.of (T := ⟨S4x576x8192, .f32⟩) main_v30 p q r).ofBuf (Val := Elt Ideal) v = v := fun _ _ _ _ => rfl
  have e4 : ∀ p q r v, (StableHlo.TRef.of (T := ⟨S4x576x1, .f32⟩) main_v6 p q r).toBuf (Val := Elt Ideal) v = v := fun _ _ _ _ => rfl
  have e5 : ∀ p q r v, (StableHlo.TRef.of (T := ⟨S4x576, .i32⟩) main_v31 p q r).toBuf (Val := Elt Ideal) v = v := fun _ _ _ _ => rfl
  simp only [e1, e2, e3, e4, e5]
  rfl

end Cert.Proof.Rpq.Ref

end
-- ==== Proof.Pre.lean ====
/- What the precondition gives: a codebook of real numbers. -/
module

public import proofs.«01_k».proof.Proof.Math
public import proofs.«01_k».proof.Proof.Gen.Pre_nearest_code_is_unique
public import Idealize.ShloMosaic.Lib.ReduceAll
public import Idealize.ShloMosaic.Lib.Claim
public import Idealize.ShloMosaic.Lib.Pointwise

@[expose] public section

noncomputable section

namespace Cert.Proof.Rpq.Pre

open Idealize.ShloMosaic Cert.Pre_nearest_code_is_unique Cert.Pre_nearest_code_is_unique.Gen

/-- The bit that tells whether an entry's absolute value is below infinity is set of real entries alone. -/
theorem real_of_abs_lt (a : EReal) (h : Ideal.cmp .olt (max a (-a)) (Ideal.ofBits .f32 0x7F800000#32) = 1#1) :
    ∃ r : ℝ, a = (r : EReal) := by
  have h' : max a (-a) < ⊤ := by
    rw [inf_eq] at h
    by_contra hn
    simp [Ideal.cmp, hn] at h
  induction a with
  | bot => simp at h'
  | top => simp at h'
  | coe r => exact ⟨r, rfl⟩

/-- Two bits whose conjunction is set are both set. -/
theorem and_eq_one {a b : BitVec 1} (h : a &&& b = 1#1) : a = 1#1 ∧ b = 1#1 := by
  revert a b; decide

/-- A precondition that holds makes every entry of the codebook a real number. -/
theorem real_of_last (cb : FVec Ideal S8192x32 .f32) (holders : IVec S4x576 32) (one : IVec S_ 32)
    (h : fn_part2 (F := Ideal) cb holders one = fun _ => 1#1) (j : Fin 8192) (c : Fin 32) : ∃ r : ℝ, cb (ix2 j c) = (r : EReal) := by
  have h0 := (and_eq_one (congrFun h (ix2 0 0))).2
  haveI : Subsingleton S_.Idx := ⟨fun a b => funext fun i => i.elim0⟩
  exact real_of_abs_lt _ (Host.reduce_andi_all _ _ _ _ _ h0 (ix2 j c))

/-- The precondition makes every entry of the codebook a real number. -/
theorem codebook_real (x : FVec Ideal S4x576x768 .f32) (W : FVec Ideal S32x768 .f32) (cb : FVec Ideal S8192x32 .f32)
    (h : fn (F := Ideal) x W cb = fun _ => 1#1) (j : Fin 8192) (c : Fin 32) : ∃ r : ℝ, cb (ix2 j c) = (r : EReal) :=
  real_of_last cb _ _ h j c

end Cert.Proof.Rpq.Pre

end
-- ==== Proof.lean ====
/- The certificate: the random-projection quantiser's frames, and its codes against the reference's.
   `Proof/Math.lean` has the mathematics of one token, `Proof/Kernel.lean` what a grid point computes, `Proof/KernelRun.lean`
   what the whole kernel leaves, `Proof/Reference.lean` and `Proof/RefRun.lean` the same of the reference, `Proof/Pre.lean`
   what the precondition gives. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nearest_code_is_unique
public import proofs.«01_k».proof.Proof.KernelRun
public import proofs.«01_k».proof.Proof.RefRun
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference runs, leaves its arguments as they were and its counters at zero: it declares no semaphore. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      fun r => (∀ c : Dev ReferenceIdeal.nD,
        r.2.mem (c.tc.loc ReferenceIdeal.main_arg0) = m (c.tc.loc ReferenceIdeal.main_arg0)
        ∧ r.2.mem (c.tc.loc ReferenceIdeal.main_arg1) = m (c.tc.loc ReferenceIdeal.main_arg1)
        ∧ r.2.mem (c.tc.loc ReferenceIdeal.main_arg2) = m (c.tc.loc ReferenceIdeal.main_arg2))
      ∧ r.2.sem = fun _ => 0 :=
  θ_run_mono (Rpq.Ref.run m g) fun r h => ⟨fun c => (h c).2, sem_eq_zero_of_no_sems (by decide) r.2⟩

/-- Kernel and reference compute the same codes over the extended reals, where the precondition holds. -/
theorem same_codes : Cert.algebraic_KernelIdeal_ReferenceIdeal (hKernelIdeal := Cert.KernelIdeal.Gen.facts)
    (hReferenceIdeal := Cert.ReferenceIdeal.Gen.facts) (hPre_nearest_code_is_unique := Cert.Pre_nearest_code_is_unique.Gen.facts) := by
  intro m g m' g' hpre hagree
  refine ⟨_, Rpq.run m g, θ_run_mono (Rpq.Ref.run m' g') fun r h c => ⟨(h c).1.trans ?_, (h c).2⟩⟩
  rw [(hagree c).1, (hagree c).2.1, (hagree c).2.2]
  funext i
  obtain ⟨b, l, rfl⟩ : ∃ (b : Fin 4) (l : Fin 576), i = ix2 b l := ⟨i 0, i 1, by funext a; fin_cases a <;> rfl⟩
  exact (Rpq.Ref.codes_eq _ _ _ (fun j k => Rpq.Pre.codebook_real _ _ _ (hpre c) j k) b l).trans (Rpq.result_apply m c b l).symm

/-- The certificate's claims. -/
theorem claim : Cert.Claim := ⟨Cert.Kernel.Gen.facts, Cert.KernelIdeal.Gen.facts, Cert.ReferenceIdeal.Gen.facts, Cert.Pre_nearest_code_is_unique.Gen.facts,
  fun m g _ => Cert.Kernel.Gen.frame m g,
  fun m g _ => Cert.Kernel.Gen.frame m g,
  fun m g _ => Cert.KernelIdeal.Gen.frame m g,
  fun m g _ => frame_reference m g,
  fun m g _ => frame_reference m g,
  trivial,
  same_codes⟩

end Cert.Proof

end
